-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_clip [hPre_in_clip : Cert.Pre_in_clip.Facts] (m : (ℓ : Loc Cert.KernelIdeal.nD Cert.KernelIdeal.τ Cert.KernelIdeal.sig) → Buf (Elt Ideal) ℓ) : Prop :=
  ∀ c : Dev Cert.KernelIdeal.nD,
    (Cert.Pre_in_clip.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_clip.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_clip [hPre_in_clip : Cert.Pre_in_clip.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_clip.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_clip.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_clip [hKernelIdeal : Cert.KernelIdeal.Facts] [hPre_in_clip : Cert.Pre_in_clip.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_clip m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_clip [hReferenceIdeal : Cert.ReferenceIdeal.Facts] [hPre_in_clip : Cert.Pre_in_clip.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_clip m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "eps_sq" .f32 0x2B8CBCCC#32 ((77371252064649 / 77371252455336267181195264 : ℝ) : EReal)

def algebraic_KernelIdeal_ReferenceIdeal_pre_in_clip [hKernelIdeal : Cert.KernelIdeal.Facts] [hReferenceIdeal : Cert.ReferenceIdeal.Facts] [hPre_in_clip : Cert.Pre_in_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_clip m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_clip : Cert.Pre_in_clip.Facts),
    quiescent_Kernel (hKernel := hKernel)
    ∧ quiescent_KernelIdeal (hKernelIdeal := hKernelIdeal)
    ∧ quiescent_KernelIdeal_pre_in_clip (hKernelIdeal := hKernelIdeal) (hPre_in_clip := hPre_in_clip)
    ∧ quiescent_ReferenceIdeal (hReferenceIdeal := hReferenceIdeal)
    ∧ quiescent_ReferenceIdeal_pre_in_clip (hReferenceIdeal := hReferenceIdeal) (hPre_in_clip := hPre_in_clip)
    ∧ preserves_Kernel_KernelIdeal
    ∧ algebraic_KernelIdeal_ReferenceIdeal_pre_in_clip (hKernelIdeal := hKernelIdeal) (hReferenceIdeal := hReferenceIdeal) (hPre_in_clip := hPre_in_clip)
-- ==== Pre_in_clip.lean ====
abbrev S1x12x2048x64 : Shape := ⟨4, ![1, 12, 2048, 64]⟩
abbrev S1x2048 : Shape := ⟨2, ![1, 2048]⟩
abbrev S12x2048x64 : Shape := ⟨3, ![12, 2048, 64]⟩
abbrev S_ : Shape := ⟨0, ![]⟩
abbrev S12x2048 : Shape := ⟨2, ![12, 2048]⟩
abbrev S12x2048x1 : Shape := ⟨3, ![12, 2048, 1]⟩
abbrev S12x2048x2048 : Shape := ⟨3, ![12, 2048, 2048]⟩

class Facts : Prop where
  shapeCasts_S1x12x2048x64_S12x2048x64 : S1x12x2048x64.ShapeCasts S12x2048x64
  reducesTo_S12x2048x64_S12x2048_d2 : S12x2048x64.ReducesTo [2] S12x2048
  h_S_ : 0 < S_.numel
  bcast_S12x2048_S12x2048x1_0_1 : S12x2048.BroadcastsInDim S12x2048x1 (![0, 1] : Fin 2 → Fin S12x2048x1.rank)
  bcast_S_S12x2048x1 : S_.BroadcastsInDim S12x2048x1 (![] : Fin 0 → Fin S12x2048x1.rank)
  bcast_S12x2048x1_S12x2048x64_0_1_2 : S12x2048x1.BroadcastsInDim S12x2048x64 (![0, 1, 2] : Fin 3 → Fin S12x2048x64.rank)
  bcast_S_S1x2048 : S_.BroadcastsInDim S1x2048 (![] : Fin 0 → Fin S1x2048.rank)
  bcast_S_S12x2048x2048 : S_.BroadcastsInDim S12x2048x2048 (![] : Fin 0 → Fin S12x2048x2048.rank)
  dot_S12x2048x64_S12x2048x64_S12x2048x2048_2_2_1_1_0_0_wf : DotDims.WF S12x2048x64 S12x2048x64 S12x2048x2048 [2] [2] [1] [1] [0] [0]

variable [Facts]

def dot_S12x2048x64_S12x2048x64_S12x2048x2048_2_2_1_1_0_0 : DotDims S12x2048x64 S12x2048x64 S12x2048x2048 where
  lhsContracting := [2]
  rhsContracting := [2]
  lhsNonContracting := [1]
  rhsNonContracting := [1]
  lhsBatch := [0]
  rhsBatch := [0]
  wf := dot_S12x2048x64_S12x2048x64_S12x2048x2048_2_2_1_1_0_0_wf
def fn_norm {F : FTy → Type} [FloatOps F] (arg0 : FVec F S12x2048x64 .f32) : FVec F S12x2048x1 .f32 :=
  let v0 : FVec F S12x2048x64 .f32 := mulf arg0 arg0
  let cst : FVec F S_ .f32 := constant S_ .f32 0x00000000#32
  let v1 : FVec F S12x2048 .f32 := (fun x v => Host.reduceAdd x v reducesTo_S12x2048x64_S12x2048_d2 h_S_) v0 cst
  let v2 : FVec F S12x2048x1 .f32 := broadcastInDim S12x2048x1 ![0, 1] bcast_S12x2048_S12x2048x1_0_1 v1
  let v3 : FVec F S12x2048x1 .f32 := Host.sqrt v2
  v3

def fn {F : FTy → Type} [FloatOps F] (main_arg0 : FVec F S1x12x2048x64 .f32) (main_arg1 : FVec F S1x12x2048x64 .f32) (main_arg2 : FVec F S1x12x2048x64 .f32) (main_arg3 : FVec F S1x2048 .f32) : IVec S1x2048 1 × IVec S12x2048x2048 1 :=
  let main_v0 : FVec F S12x2048x64 .f32 := shapeCast S12x2048x64 main_arg0 shapeCasts_S1x12x2048x64_S12x2048x64
  let main_v1 : FVec F S12x2048x1 .f32 := fn_norm (F := F) main_v0
  let main_cst : FVec F S_ .f32 := constant S_ .f32 0x358637BD#32
  let main_v2 : FVec F S12x2048x1 .f32 := broadcastInDim S12x2048x1 ![] bcast_S_S12x2048x1 main_cst
  let main_v3 : FVec F S12x2048x1 .f32 := maximumf main_v1 main_v2
  let main_v4 : FVec F S12x2048x64 .f32 := broadcastInDim S12x2048x64 ![0, 1, 2] bcast_S12x2048x1_S12x2048x64_0_1_2 main_v3
  let main_v5 : FVec F S12x2048x64 .f32 := Host.divf main_v0 main_v4
  let main_v6 : FVec F S12x2048x64 .f32 := shapeCast S12x2048x64 main_arg1 shapeCasts_S1x12x2048x64_S12x2048x64
  let main_v7 : FVec F S12x2048x1 .f32 := fn_norm (F := F) main_v6
  let main_cst_0 : FVec F S_ .f32 := constant S_ .f32 0x358637BD#32
  let main_v8 : FVec F S12x2048x1 .f32 := broadcastInDim S12x2048x1 ![] bcast_S_S12x2048x1 main_cst_0
  let main_v9 : FVec F S12x2048x1 .f32 := maximumf main_v7 main_v8
  let main_v10 : FVec F S12x2048x64 .f32 := broadcastInDim S12x2048x64 ![0, 1, 2] bcast_S12x2048x1_S12x2048x64_0_1_2 main_v9
  let main_v11 : FVec F S12x2048x64 .f32 := Host.divf main_v6 main_v10
  let main_v12 : FVec F S12x2048x2048 .f32 := (fun l r => Host.dotGeneral dot_S12x2048x64_S12x2048x64_S12x2048x2048_2_2_1_1_0_0 none l r) main_v5 main_v11
  let main_cst_1 : FVec F S_ .f32 := constant S_ .f32 0x3F800000#32
  let main_v13 : FVec F S1x2048 .f32 := broadcastInDim S1x2048 ![] bcast_S_S1x2048 main_cst_1
  let main_v14 : IVec S1x2048 1 := cmpf .oeq main_arg3 main_v13
  let main_v15 : FVec F S12x2048x2048 .f32 := Host.absf main_v12
  let main_cst_2 : FVec F S_ .f32 := constant S_ .f32 0x3F7FFFEF#32
  let main_v16 : FVec F S12x2048x2048 .f32 := broadcastInDim S12x2048x2048 ![] bcast_S_S12x2048x2048 main_cst_2
  let main_v17 : IVec S12x2048x2048 1 := cmpf .ole main_v15 main_v16
  (main_v14, main_v17)
-- ==== Kernel.lean ====
abbrev S1x12x2048x64 : Shape := ⟨4, ![1, 12, 2048, 64]⟩
abbrev S1x2048 : Shape := ⟨2, ![1, 2048]⟩
abbrev S1x1x512x64 : Shape := ⟨4, ![1, 1, 512, 64]⟩
abbrev S1x1x2048x64 : Shape := ⟨4, ![1, 1, 2048, 64]⟩
abbrev S512x64 : Shape := ⟨2, ![512, 64]⟩
abbrev S512 : Shape := ⟨1, ![512]⟩
abbrev S512x1 : Shape := ⟨2, ![512, 1]⟩
abbrev S2048x64 : Shape := ⟨2, ![2048, 64]⟩
abbrev S2048 : Shape := ⟨1, ![2048]⟩
abbrev S2048x1 : Shape := ⟨2, ![2048, 1]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S1x2048, .f32⟩
  | .hbm, ⟨4, _⟩ => ⟨S1x12x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "eps_sq" => some ((77371252064649 / 77371252455336267181195264 : ℝ) : EReal)
  | _ => none
-- ==== ReferenceIdeal.lean ====
abbrev S1x12x2048x64 : Shape := ⟨4, ![1, 12, 2048, 64]⟩
abbrev S1x2048 : Shape := ⟨2, ![1, 2048]⟩
abbrev S12x2048x64 : Shape := ⟨3, ![12, 2048, 64]⟩
abbrev S1x1x2048 : Shape := ⟨3, ![1, 1, 2048]⟩
abbrev S1x1x12x2048 : Shape := ⟨4, ![1, 1, 12, 2048]⟩
abbrev S1x12x2048 : Shape := ⟨3, ![1, 12, 2048]⟩
abbrev S12x2048 : Shape := ⟨2, ![12, 2048]⟩
abbrev S_ : Shape := ⟨0, ![]⟩
abbrev S12x2048x1 : Shape := ⟨3, ![12, 2048, 1]⟩
abbrev S12x2048x2048 : Shape := ⟨3, ![12, 2048, 2048]⟩
abbrev S12x1x2048 : Shape := ⟨3, ![12, 1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S1x2048, .f32⟩
  | .hbm, ⟨4, _⟩ => ⟨S12x2048x64, .f32⟩
  | .hbm, ⟨5, _⟩ => ⟨S1x1x2048, .f32⟩
  | .hbm, ⟨6, _⟩ => ⟨S1x1x12x2048, .f32⟩
  | .hbm, ⟨7, _⟩ => ⟨S1x12x2048, .f32⟩
  | .hbm, ⟨8, _⟩ => ⟨S12x2048, .f32⟩
  | .hbm, ⟨9, _⟩ => ⟨S12x2048x64, .f32⟩
  | .hbm, ⟨10, _⟩ => ⟨S12x2048x64, .f32⟩
  | .hbm, ⟨11, _⟩ => ⟨S_, .f32⟩
  | .hbm, ⟨12, _⟩ => ⟨S12x2048, .f32⟩
  | .hbm, ⟨13, _⟩ => ⟨S12x2048x1, .f32⟩
  | .hbm, ⟨14, _⟩ => ⟨S12x2048x1, .f32⟩
  | .hbm, ⟨15, _⟩ => ⟨S_, .f32⟩
  | .hbm, ⟨16, _⟩ => ⟨S12x2048x1, .f32⟩
  | .hbm, ⟨17, _⟩ => ⟨S12x2048x1, .f32⟩
  | .hbm, ⟨18, _⟩ => ⟨S12x2048x64, .f32⟩
  | .hbm, ⟨19, _⟩ => ⟨S12x2048x64, .f32⟩
  | .hbm, ⟨20, _⟩ => ⟨S12x2048x64, .f32⟩
  | .hbm, ⟨21, _⟩ => ⟨S12x2048x64, .f32⟩
  | .hbm, ⟨22, _⟩ => ⟨S_, .f32⟩
  | .hbm, ⟨23, _⟩ => ⟨S12x2048, .f32⟩
  | .hbm, ⟨24, _⟩ => ⟨S12x2048x1, .f32⟩
  | .hbm, ⟨25, _⟩ => ⟨S12x2048x1, .f32⟩
  | .hbm, ⟨26, _⟩ => ⟨S_, .f32⟩
  | .hbm, ⟨27, _⟩ => ⟨S12x2048x1, .f32⟩
  | .hbm, ⟨28, _⟩ => ⟨S12x2048x1, .f32⟩
  | .hbm, ⟨29, _⟩ => ⟨S12x2048x64, .f32⟩
  | .hbm, ⟨30, _⟩ => ⟨S12x2048x64, .f32⟩
  | .hbm, ⟨31, _⟩ => ⟨S12x2048x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S12x2048x2048, .f32⟩
  | .hbm, ⟨36, _⟩ => ⟨S12x2048x2048, .f32⟩
  | .hbm, ⟨37, _⟩ => ⟨S_, .f32⟩
  | .hbm, ⟨38, _⟩ => ⟨S12x2048x2048, .f32⟩
  | .hbm, ⟨39, _⟩ => ⟨S12x2048x2048, .f32⟩
  | .hbm, ⟨40, _⟩ => ⟨S_, .f32⟩
  | .hbm, ⟨41, _⟩ => ⟨S12x2048x2048, .f32⟩
  | .hbm, ⟨42, _⟩ => ⟨S12x2048x2048, .f32⟩
  | .hbm, ⟨43, _⟩ => ⟨S_, .f32⟩
  | .hbm, ⟨44, _⟩ => ⟨S12x2048x2048, .f32⟩
  | .hbm, ⟨45, _⟩ => ⟨S12x2048x2048, .f32⟩
  | .hbm, ⟨46, _⟩ => ⟨S12x2048x2048, .f32⟩
  | .hbm, ⟨47, _⟩ => ⟨S12x2048x2048, .f32⟩
  | .hbm, ⟨48, _⟩ => ⟨S_, .f32⟩
  | .hbm, ⟨49, _⟩ => ⟨S12x2048x2048, .f32⟩
  | .hbm, ⟨50, _⟩ => ⟨S12x2048x2048, .f32⟩
  | .hbm, ⟨51, _⟩ => ⟨S12x2048x2048, .f32⟩
  | .hbm, ⟨52, _⟩ => ⟨S12x2048x2048, .f32⟩
  | .hbm, ⟨53, _⟩ => ⟨S12x2048x2048, .f32⟩
  | .hbm, ⟨54, _⟩ => ⟨S12x2048x2048, .f32⟩
  | .hbm, ⟨55, _⟩ => ⟨S_, .f32⟩
  | .hbm, ⟨56, _⟩ => ⟨S12x2048x2048, .f32⟩
  | .hbm, ⟨57, _⟩ => ⟨S12x2048x2048, .f32⟩
  | .hbm, ⟨58, _⟩ => ⟨S12x2048x2048, .f32⟩
  | .hbm, ⟨59, _⟩ => ⟨S12x2048x2048, .f32⟩
  | .hbm, ⟨60, _⟩ => ⟨S12x2048x2048, .f32⟩
  | .hbm, ⟨61, _⟩ => ⟨S12x2048x2048, .f32⟩
  | .hbm, ⟨62, _⟩ => ⟨S12x2048x2048, .f32⟩
  | .hbm, ⟨63, _⟩ => ⟨S_, .f32⟩
  | .hbm, ⟨64, _⟩ => ⟨S12x2048x2048, .f32⟩
  | .hbm, ⟨65, _⟩ => ⟨S12x2048x2048, .f32⟩
  | .hbm, ⟨66, _⟩ => ⟨S12x2048x2048, .f32⟩
  | .hbm, ⟨67, _⟩ => ⟨S12x2048x2048, .f32⟩
  | .hbm, ⟨68, _⟩ => ⟨S12x2048x2048, .f32⟩
  | .hbm, ⟨69, _⟩ => ⟨S12x2048x2048, .f32⟩
  | .hbm, ⟨70, _⟩ => ⟨S12x2048x2048, .f32⟩
  | .hbm, ⟨71, _⟩ => ⟨S_, .f32⟩
  | .hbm, ⟨72, _⟩ => ⟨S12x2048x2048, .f32⟩
  | .hbm, ⟨73, _⟩ => ⟨S12x2048x2048, .f32⟩
  | .hbm, ⟨74, _⟩ => ⟨S12x2048x2048, .f32⟩
  | .hbm, ⟨75, _⟩ => ⟨S_, .f32⟩
  | .hbm, ⟨76, _⟩ => ⟨S12x2048x2048, .f32⟩
  | .hbm, ⟨77, _⟩ => ⟨S12x2048x2048, .f32⟩
  | .hbm, ⟨78, _⟩ => ⟨S12x2048x2048, .f32⟩
  | .hbm, ⟨79, _⟩ => ⟨S12x2048x2048, .f32⟩
  | .hbm, ⟨80, _⟩ => ⟨S12x2048x2048, .f32⟩
  | .hbm, ⟨81, _⟩ => ⟨S12x2048x2048, .f32⟩
  | .hbm, ⟨82, _⟩ => ⟨S12x1x2048, .f32⟩
  | .hbm, ⟨83, _⟩ => ⟨S12x2048x2048, .f32⟩
  | .hbm, ⟨84, _⟩ => ⟨S12x2048x2048, .f32⟩
  | .hbm, ⟨85, _⟩ => ⟨S12x2048x64, .f32⟩
  | .hbm, ⟨86, _⟩ => ⟨S12x2048x1, .f32⟩
  | .hbm, ⟨87, _⟩ => ⟨S12x2048x64, .f32⟩
  | .hbm, ⟨88, _⟩ => ⟨S12x2048x64, .f32⟩
  | .hbm, ⟨89, _⟩ => ⟨S12x2048x64, .f32⟩
  | .hbm, ⟨90, _⟩ => ⟨S_, .f32⟩
  | .hbm, ⟨91, _⟩ => ⟨S12x2048, .f32⟩
  | .hbm, ⟨92, _⟩ => ⟨S12x2048x1, .f32⟩
  | .hbm, ⟨93, _⟩ => ⟨S12x2048x1, .f32⟩
  | .hbm, ⟨94, _⟩ => ⟨S_, .f32⟩
  | .hbm, ⟨95, _⟩ => ⟨S12x2048x1, .f32⟩
  | .hbm, ⟨96, _⟩ => ⟨S12x2048x1, .f32⟩
  | .hbm, ⟨97, _⟩ => ⟨S12x2048x64, .f32⟩
  | .hbm, ⟨98, _⟩ => ⟨S12x2048x64, .f32⟩
  | .hbm, ⟨99, _⟩ => ⟨S1x12x2048x64, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_cst_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call3_v0 : Ref sig .tc := ⟨.hbm, 89, rfl⟩
abbrev main_call3_cst : Ref sig .tc := ⟨.hbm, 90, rfl⟩
abbrev main_call3_v1 : Ref sig .tc := ⟨.hbm, 91, rfl⟩
abbrev main_call3_v2 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]
-- ==== Proof.Consts.lean ====
module

public import proofs.«01_k».proof.Defs
public import Idealize.ShloMosaic.PureOps.Ideal.Laws
public import Idealize.ShloMosaic.Lib.IdealHost

/-! # The values of the two programs' literals

Each lemma reads one literal word as the real number it stands for. The kernel prints the polynomial's coefficients as
bfloat16 words and the reference as float32 words; both stand for the same numbers, named `c0` … `c4` below. -/

@[expose] public section

noncomputable section

namespace Cert.Proof

open Idealize.ShloMosaic

/-- The bound the reference puts under a length: the float32 nearest to `1e-6`. -/
def eps : ℝ := 8796093 / 8796093022208

theorem eps_pos : 0 < eps := by unfold eps; norm_num

/-- The upper end of the reference's clip: the float32 nearest to `1 - 1e-6`. -/
def clipHi : ℝ := 16777199 / 16777216

/-- The five coefficients of the odd polynomial, as numbers. -/
def c0 : ℝ := 163 / 512
def c1 : ℝ := 105 / 2048
def c2 : ℝ := 165 / 4096
def c3 : ℝ := -(157 / 4096)
def c4 : ℝ := 139 / 2048

theorem eps_word : Ideal.ofBits .f32 0x358637BD#32 = ((eps : ℝ) : EReal) := by
  simp [Ideal.ofBits, Ideal.ieee, eps, -EReal.coe_mul]; norm_num

theorem half_word : Ideal.ofBits .f32 0x3F000000#32 = ((1 / 2 : ℝ) : EReal) := by
  simp [Ideal.ofBits, Ideal.ieee, -EReal.coe_mul]; norm_num

theorem clipHi_word : Ideal.ofBits .f32 0x3F7FFFEF#32 = ((clipHi : ℝ) : EReal) := by
  simp [Ideal.ofBits, Ideal.ieee, clipHi, -EReal.coe_mul]; norm_num

theorem clipLo_word : Ideal.ofBits .f32 0xBF7FFFEF#32 = ((-clipHi : ℝ) : EReal) := by
  simp [Ideal.ofBits, Ideal.ieee, clipHi, -EReal.coe_mul]; norm_num

theorem c0_bf16 : Ideal.ofBits .bf16 0x3EA3#16 = ((c0 : ℝ) : EReal) := by
  simp [Ideal.ofBits, Ideal.ieee, c0, -EReal.coe_mul]; norm_num

theorem c1_bf16 : Ideal.ofBits .bf16 0x3D52#16 = ((c1 : ℝ) : EReal) := by
  simp [Ideal.ofBits, Ideal.ieee, c1, -EReal.coe_mul]; norm_num

theorem c2_bf16 : Ideal.ofBits .bf16 0x3D25#16 = ((c2 : ℝ) : EReal) := by
  simp [Ideal.ofBits, Ideal.ieee, c2, -EReal.coe_mul]; norm_num

theorem c3_bf16 : Ideal.ofBits .bf16 0xBD1D#16 = ((c3 : ℝ) : EReal) := by
  simp [Ideal.ofBits, Ideal.ieee, c3, -EReal.coe_mul]; norm_num

theorem c4_bf16 : Ideal.ofBits .bf16 0x3D8B#16 = ((c4 : ℝ) : EReal) := by
  simp [Ideal.ofBits, Ideal.ieee, c4, -EReal.coe_mul]; norm_num

theorem c0_f32 : Ideal.ofBits .f32 0x3EA30000#32 = ((c0 : ℝ) : EReal) := by
  simp [Ideal.ofBits, Ideal.ieee, c0, -EReal.coe_mul]; norm_num

theorem c1_f32 : Ideal.ofBits .f32 0x3D520000#32 = ((c1 : ℝ) : EReal) := by
  simp [Ideal.ofBits, Ideal.ieee, c1, -EReal.coe_mul]; norm_num

theorem c2_f32 : Ideal.ofBits .f32 0x3D250000#32 = ((c2 : ℝ) : EReal) := by
  simp [Ideal.ofBits, Ideal.ieee, c2, -EReal.coe_mul]; norm_num

theorem c3_f32 : Ideal.ofBits .f32 0xBD1D0000#32 = ((c3 : ℝ) : EReal) := by
  simp [Ideal.ofBits, Ideal.ieee, c3, -EReal.coe_mul]; norm_num

theorem c4_f32 : Ideal.ofBits .f32 0x3D8B0000#32 = ((c4 : ℝ) : EReal) := by
  simp [Ideal.ofBits, Ideal.ieee, c4, -EReal.coe_mul]; norm_num

/-- The kernel's named constant is the square of the reference's bound. -/
theorem eps_sq_named :
    (Named.named Cert.KernelIdeal.κ "eps_sq" 0x2B8CBCCC#32 : Ideal .f32) = ((eps * eps : ℝ) : EReal) := by
  have h : eps * eps = (77371252064649 / 77371252455336267181195264 : ℝ) := by unfold eps; norm_num
  rw [h]
  exact IdealRules.named_const.ideal_named_scalar _ _ _ _ rfl

end Cert.Proof

end

end
-- ==== Proof.Scalar.lean ====
module

public import proofs.«01_k».proof.Proof.Consts

/-! # The mathematics of one row

The kernel scales a row by the reciprocal square root of `max(sum of squares, eps^2)`; the reference divides it by
`max(length, eps)`. The kernel evaluates its odd polynomial by nested multiplication; the reference sums odd powers. The
kernel raises the result to the ninth power in one order, the reference in another. Each pair is equal here, over the
extended reals. -/

@[expose] public section

noncomputable section

namespace Cert.Proof

open Idealize.ShloMosaic

/-! ## Scaling a row to unit length -/

/-- A row scaled by the reciprocal square root of its sum of squares, bounded below by `eps^2`: what the kernel does. -/
def scaleRow {n : ℕ} (x : Fin n → EReal) (d : Fin n) : EReal :=
  x d * Ideal.rsqrt (max (∑ k, x k * x k) ((eps * eps : ℝ) : EReal))

/-- A row divided by its length, bounded below by `eps`: what the reference does. -/
def unitRow {n : ℕ} (x : Fin n → EReal) (d : Fin n) : EReal :=
  Ideal.div (x d) (max (Ideal.sqrt (∑ k, x k * x k)) ((eps : ℝ) : EReal))

theorem mul_self_nonneg' (x : EReal) : 0 ≤ x * x := by
  induction x with
  | bot => simp
  | top => simp
  | coe r => exact_mod_cast mul_self_nonneg r

/-- The square root of the larger of `r` and `e^2` is the larger of the square root of `r` and `e`. -/
theorem sqrt_max_sq (r e : ℝ) (he : 0 ≤ e) : Real.sqrt (max r (e * e)) = max (Real.sqrt r) e := by
  rw [Monotone.map_max (f := Real.sqrt) (fun _ _ h => Real.sqrt_le_sqrt h), Real.sqrt_mul_self he]

/-- One entry: scaling by the bounded reciprocal square root is division by the bounded square root. -/
theorem scale_eq_div (x n : EReal) (hn : 0 ≤ n) :
    x * Ideal.rsqrt (max n ((eps * eps : ℝ) : EReal)) = Ideal.div x (max (Ideal.sqrt n) ((eps : ℝ) : EReal)) := by
  induction n with
  | bot => simp at hn
  | top => simp [Ideal.div]
  | coe r =>
    have hr : 0 ≤ r := by exact_mod_cast hn
    have hp : 0 < max r (eps * eps) := lt_max_of_lt_right (mul_pos eps_pos eps_pos)
    have hq : 0 < max (Real.sqrt r) eps := lt_max_of_lt_right eps_pos
    rw [Ideal.sqrt_coe, if_neg (not_lt.mpr hr), ← EReal.coe_strictMono.monotone.map_max, ← EReal.coe_strictMono.monotone.map_max,
      Ideal.rsqrt_coe, if_neg (not_lt.mpr hp.le), if_neg hp.ne', sqrt_max_sq r eps eps_pos.le, Ideal.div_coe hq.ne', one_div]

theorem scaleRow_eq_unitRow {n : ℕ} (x : Fin n → EReal) (d : Fin n) : scaleRow x d = unitRow x d :=
  scale_eq_div _ _ (Finset.sum_nonneg fun _ _ => mul_self_nonneg' _)

/-! ## The collision probability of one score -/

/-- The kernel's polynomial: one half plus `s` times a polynomial in `s^2` by nested multiplication. -/
def hornerHalf (s : EReal) : EReal :=
  s * ((((((c4 : ℝ) : EReal) * (s * s) + ((c3 : ℝ) : EReal)) * (s * s) + ((c2 : ℝ) : EReal)) * (s * s) + ((c1 : ℝ) : EReal)) * (s * s)
    + ((c0 : ℝ) : EReal)) + ((1 / 2 : ℝ) : EReal)

/-- The reference's polynomial: one half plus the sum of five odd powers, each with its coefficient. -/
def oddHalf (s : EReal) : EReal :=
  ((1 / 2 : ℝ) : EReal) + (0 + ((c0 : ℝ) : EReal) * s + ((c1 : ℝ) : EReal) * (s * s * s)
    + ((c2 : ℝ) : EReal) * (s * (s * s * (s * s))) + ((c3 : ℝ) : EReal) * (s * (s * s) * (s * s * (s * s)))
    + ((c4 : ℝ) : EReal) * (s * (s * s * (s * s) * (s * s * (s * s)))))

/-- The odd polynomial of a real score, as a real number. -/
def collision (s : ℝ) : ℝ := 1 / 2 + (c0 * s + c1 * s ^ 3 + c2 * s ^ 5 + c3 * s ^ 7 + c4 * s ^ 9)

theorem hornerHalf_coe (s : ℝ) : hornerHalf ((s : ℝ) : EReal) = ((collision s : ℝ) : EReal) := by
  unfold hornerHalf collision
  norm_cast
  ring_nf

theorem oddHalf_coe (s : ℝ) : oddHalf ((s : ℝ) : EReal) = ((collision s : ℝ) : EReal) := by
  unfold oddHalf collision
  norm_cast
  ring_nf

/-- The ninth power in the kernel's order: the eighth by squaring three times, then once more. -/
def ninthLeft (u : EReal) : EReal := u * u * (u * u) * (u * u * (u * u)) * u

/-- The ninth power in the reference's order. -/
def ninthRight (u : EReal) : EReal := u * (u * u * (u * u) * (u * u * (u * u)))

theorem ninthLeft_eq_ninthRight (u : EReal) : ninthLeft u = ninthRight u := mul_comm _ _

/-- A score whose absolute value is at most the clip's upper end is a real number between the clip's ends. -/
theorem exists_real_of_abs_le (s : EReal) (h : max s (-s) ≤ ((clipHi : ℝ) : EReal)) :
    ∃ r : ℝ, s = ((r : ℝ) : EReal) ∧ |r| ≤ clipHi := by
  induction s with
  | bot => simp at h
  | top => simp at h
  | coe r =>
    refine ⟨r, rfl, abs_le'.mpr ⟨?_, ?_⟩⟩
    · exact_mod_cast (le_max_left _ _).trans h
    · have h2 := (le_max_right _ _).trans h
      exact_mod_cast h2

/-- Such a score is left alone by the reference's clip. -/
theorem clip_eq_self (r : ℝ) (h : |r| ≤ clipHi) :
    min ((clipHi : ℝ) : EReal) (max ((-clipHi : ℝ) : EReal) ((r : ℝ) : EReal)) = ((r : ℝ) : EReal) := by
  rw [max_eq_right (EReal.coe_le_coe_iff.mpr (abs_le.mp h).1), min_eq_right (EReal.coe_le_coe_iff.mpr (abs_le.mp h).2)]

end Cert.Proof

end

end
-- ==== Proof.Block.lean ====
module

public import proofs.«01_k».proof.Proof.Scalar
public import proofs.«01_k».proof.Proof.Gen.KernelIdeal.Skeleton
public import Idealize.ShloMosaic.Lib.Pointwise

/-! # What one grid point computes

A grid point holds 512 query rows and the 2048 key and value rows of one head. Its result, row by row, as a function of
those blocks. -/

@[expose] public section

set_option maxRecDepth 16384

noncomputable section

namespace Cert.Proof

open Idealize.ShloMosaic Cert.KernelIdeal Cert.KernelIdeal.Gen

/-- The score of a query row and a key row: the sum of products of the two scaled rows. -/
def score (q k : Fin 64 → EReal) : EReal := ∑ e, scaleRow q e * scaleRow k e

/-- One row of the result: the value rows weighted by the ninth power of the polynomial of the scores, then scaled. -/
def outRow (q : Fin 64 → EReal) (k v : Fin 2048 → Fin 64 → EReal) (d : Fin 64) : EReal :=
  scaleRow (fun d' => ∑ t, ninthLeft (hornerHalf (score q (k t))) * v t d') d

/-- The polynomial before its one half is added, from the query and key blocks. -/
theorem pay2_apply (q : Vec Ideal S1x1x512x64 .f32) (k : Vec Ideal S1x1x2048x64 .f32) (r : Fin 512) (t : Fin 2048) :
    k0_pay2 (F := Ideal) q k (ix2 r t) + ((1 / 2 : ℝ) : EReal)
      = hornerHalf (score (fun e => q (ix4 0 0 r e)) (fun e => k (ix4 0 0 t e))) := by
  pointwise [k0_pay2]
  simp only [eps_sq_named, c0_bf16, c1_bf16, c2_bf16, c3_bf16, c4_bf16]
  rfl

/-- The added constant is one half. -/
theorem pay3_apply (r : Fin 512) (t : Fin 2048) :
    k0_pay3 (F := Ideal) (ix2 r t) = ((1 / 2 : ℝ) : EReal) := half_word

/-- The stored block from the polynomial's values and the value block. -/
theorem pay1_apply (a b : FVec Ideal S512x2048 .f32) (v : Vec Ideal S1x1x2048x64 .f32) (r : Fin 512) (d : Fin 64) :
    k0_pay1 (F := Ideal) a b v (ix4 0 0 r d)
      = scaleRow (fun d' => ∑ t, ninthLeft (a (ix2 r t) + b (ix2 r t)) * v (ix4 0 0 t d')) d := by
  pointwise [k0_pay1]
  simp only [eps_sq_named]
  rfl

/-- The stored block, row by row. -/
theorem block_apply (q : Vec Ideal S1x1x512x64 .f32) (k v : Vec Ideal S1x1x2048x64 .f32) (r : Fin 512) (d : Fin 64) :
    k0_pay1 (F := Ideal) (k0_pay2 (F := Ideal) q k) (k0_pay3 (F := Ideal)) v (ix4 0 0 r d)
      = outRow (fun e => q (ix4 0 0 r e)) (fun t e => k (ix4 0 0 t e)) (fun t e => v (ix4 0 0 t e)) d := by
  rw [pay1_apply]
  simp only [pay3_apply, pay2_apply]
  rfl

end Cert.Proof

end

end
-- ==== Proof.KernelArray.lean ====
module

public import proofs.«01_k».proof.Proof.Block
public import proofs.«01_k».proof.Proof.Gen.KernelIdeal.Value
public import Idealize.ShloMosaic.Lib.Pipeline.ValueKit
public import Idealize.ShloMosaic.Lib.Pipeline.Value

/-! # What the kernel's result array holds

Grid point `(h, i)` writes rows `512 i` to `512 i + 511` of head `h`, from those query rows and the whole key and value
arrays of head `h`. The 48 blocks tile the result, so each of its rows is `outRow` of one query row and one head's keys and
values. -/

@[expose] public section

set_option maxRecDepth 16384

noncomputable section

namespace Cert.Proof

open Idealize.ShloMosaic Idealize.ShloMosaic.TcCoe Idealize.SL.Sem Cert.KernelIdeal Cert.KernelIdeal.Gen

/-- The result array as a function of the query, key and value arrays. -/
def attention (Q K W : S1x12x2048x64.Idx → EReal) : S1x12x2048x64.Idx → EReal := fun i =>
  outRow (fun e => Q (ix4 0 (i 1) (i 2) e)) (fun t e => K (ix4 0 (i 1) t e)) (fun t e => W (ix4 0 (i 1) t e)) (i 3)

variable (m : (ℓ : Loc nD τ sig) → Buf (Elt Ideal) ℓ) (ρ : Dev nD → PrngReg)

/-- Where each window's block lies: the query and result blocks at head and query block, the key and value blocks at the head. -/
theorem blockIndex : ∀ t : Fin cfg0.N,
    win0_0.index t = ![0, (grid0.coords t 0).val, (grid0.coords t 1).val, 0]
    ∧ win0_1.index t = ![0, (grid0.coords t 0).val, 0, 0]
    ∧ win0_2.index t = ![0, (grid0.coords t 0).val, 0, 0]
    ∧ win0_3.index t = ![0, (grid0.coords t 0).val, (grid0.coords t 1).val, 0] :=
  (by decide +kernel : ∀ t : Fin grid0.N,
    win0_0.index t = ![0, (grid0.coords t 0).val, (grid0.coords t 1).val, 0]
    ∧ win0_1.index t = ![0, (grid0.coords t 0).val, 0, 0]
    ∧ win0_2.index t = ![0, (grid0.coords t 0).val, 0, 0]
    ∧ win0_3.index t = ![0, (grid0.coords t 0).val, (grid0.coords t 1).val, 0])

theorem zeros4 : (![0, 0, 0, 0] : Fin 4 → Nat) = fun _ => 0 := funext fun a => by fin_cases a <;> rfl

/-- The result array after the run. -/
theorem final_eq (c : Dev nD) : (dats m 0 c).arrAt 3 cfg0.N
    = attention (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3 r0_0 r0_1
  rw [View.canon_unit_zero zeros4, View.ld_unit_zero zeros4, View.ld_unit_zero zeros4, View.ld_unit_zero zeros4]
  idx_vars y
  obtain rfl : y0 = 0 := Subsingleton.elim _ _
  obtain rfl : y1 = 0 := Subsingleton.elim _ _
  refine (block_apply (iblk m c 0 t) (iblk m c 1 t) (iblk m c 2 t) y2 y3).trans ?_
  unfold attention
  congr 1
  · funext e
    blk_ext [iblk, V, blockIndex t]
  · funext s e
    blk_ext [iblk, V, blockIndex t]
  · funext s e
    blk_ext [iblk, V, blockIndex t]
  · apply Fin.ext
    blk_simp [blockIndex t]

/-- The run: the result array holds `attention` of the arguments, which are unchanged. -/
theorem kernel_run : θ_run defs (onTc (τ := τ) (main (F := Ideal))) ⟨m, fun _ => 0, ρ⟩ fun r => ∀ c : Dev nD,
      r.2.mem ((c : Thread nD τ).loc main_v0)
        = attention (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Value.run_blocks m ρ)

end Cert.Proof

end

end
-- ==== Proof.RefArray.lean ====
module

public import proofs.«01_k».proof.Proof.Scalar
public import proofs.«01_k».proof.Proof.Gen.ReferenceIdeal.Read
public import Idealize.ShloMosaic.Lib.Pointwise
public import Idealize.ShloMosaic.Lib.Claim

/-! # What the reference computes

The reference's result at an index, as a function of the argument arrays: unit rows, their products, the clip, the odd
polynomial, its ninth power, the mask, the weighted sum of value rows, the mask again, unit rows again. -/

@[expose] public section

set_option maxRecDepth 16384

noncomputable section

namespace Cert.Proof

open Idealize.ShloMosaic Cert.ReferenceIdeal Cert.ReferenceIdeal.Gen Cert.ReferenceIdeal.Read

/-- The inner product of two unit rows. -/
def cosine (q k : Fin 64 → EReal) : EReal := ∑ e, unitRow q e * unitRow k e

/-- The reference's clip. -/
def clip (s : EReal) : EReal := min ((clipHi : ℝ) : EReal) (max ((-clipHi : ℝ) : EReal) s)

/-- One row of the reference's result before its last normalisation: `mk` the mask of the keys, `mq` that of the query. -/
def weighted (q : Fin 64 → EReal) (k v : Fin 2048 → Fin 64 → EReal) (mk : Fin 2048 → EReal) (mq : EReal) (d : Fin 64) : EReal :=
  (∑ t, ninthRight (oddHalf (clip (cosine q (k t)))) * mk t * v t d) * mq

variable (Q K W : (⟨S1x12x2048x64, .f32⟩ : BufTy).Contents (Elt Ideal)) (M : (⟨S1x2048, .f32⟩ : BufTy).Contents (Elt Ideal))

/-- A unit query row. -/
theorem query_apply (h : Fin 12) (r : Fin 2048) (e : Fin 64) :
    val_main_v10 (F := Ideal) Q (ix3 h r e) = unitRow (fun d => Q (ix4 0 h r d)) e := by
  pointwise [val_main_v10, val_main_v9, val_main_v8, val_main_v7, val_main_cst, val_main_v6, val_main_call0_v2, val_main_call0_v1,
    val_main_call0_v0, val_main_call0_cst, val_main_v5]
  simp only [eps_word]
  rfl

/-- A unit key row. -/
theorem key_apply (h : Fin 12) (t : Fin 2048) (e : Fin 64) :
    val_main_v16 (F := Ideal) K (ix3 h t e) = unitRow (fun d => K (ix4 0 h t d)) e := by
  pointwise [val_main_v16, val_main_v15, val_main_v14, val_main_v13, val_main_cst_0, val_main_v12, val_main_call1_v2, val_main_call1_v1,
    val_main_call1_v0, val_main_call1_cst, val_main_v11]
  simp only [eps_word]
  rfl

/-- A score before the clip. -/
theorem score_apply (h : Fin 12) (r t : Fin 2048) :
    val_main_v17 (F := Ideal) Q K (ix3 h r t) = cosine (fun d => Q (ix4 0 h r d)) (fun d => K (ix4 0 h t d)) := by
  have hq := fun e => query_apply Q h r e
  have hk := fun e => key_apply K h t e
  pointwise [val_main_v17]
  simp only [hq, hk]
  rfl

/-- The clipped score. -/
theorem clip_apply (h : Fin 12) (r t : Fin 2048) :
    val_main_v18 (F := Ideal) Q K (ix3 h r t) = clip (val_main_v17 (F := Ideal) Q K (ix3 h r t)) := by
  simp only [val_main_v18_apply, val_main_call2_v4_apply, val_main_call2_v3_apply, val_main_cst_2_apply, val_main_call2_v2_apply,
    val_main_call2_v1_apply, val_main_call2_v0_apply, val_main_cst_1_apply, Ideal.ofBits_def, Ideal.minimumf_def, Ideal.maximumf_def,
    clipHi_word, clipLo_word]
  rfl

/-- The polynomial of a clipped score. -/
theorem poly_apply (i : S12x2048x2048.Idx) :
    val_main_v49 (F := Ideal) Q K i = oddHalf (val_main_v18 (F := Ideal) Q K i) := by
  simp only [val_main_v49_apply, val_main_v48_apply, val_main_cst_9_apply, val_main_v47_apply, val_main_v46_apply, val_main_v45_apply,
    val_main_cst_8_apply, val_main_v44_apply, val_main_v43_apply, val_main_v42_apply, val_main_v41_apply, val_main_v40_apply,
    val_main_v39_apply, val_main_v38_apply, val_main_cst_7_apply, val_main_v37_apply, val_main_v36_apply, val_main_v35_apply,
    val_main_v34_apply, val_main_v33_apply, val_main_v32_apply, val_main_v31_apply, val_main_cst_6_apply, val_main_v30_apply,
    val_main_v29_apply, val_main_v28_apply, val_main_v27_apply, val_main_v26_apply, val_main_v25_apply, val_main_cst_5_apply,
    val_main_v24_apply, val_main_v23_apply, val_main_v22_apply, val_main_v21_apply, val_main_cst_4_apply, val_main_v20_apply,
    val_main_v19_apply, val_main_cst_3_apply, Ideal.ofBits_def, Ideal.mulf_def, Ideal.addf_def, Ideal.ofBits_zero_f32, half_word,
    c0_f32, c1_f32, c2_f32, c3_f32, c4_f32]
  rfl

/-- The ninth power of the polynomial. -/
theorem prob_apply (i : S12x2048x2048.Idx) :
    val_main_v53 (F := Ideal) Q K i = ninthRight (val_main_v49 (F := Ideal) Q K i) := by
  simp only [val_main_v53_apply, val_main_v52_apply, val_main_v51_apply, val_main_v50_apply, Ideal.mulf_def]
  rfl

/-- The mask, spread over the heads. -/
theorem mask_apply (h : Fin 12) (t : Fin 2048) : val_main_v4 (F := Ideal) M (ix2 h t) = M (ix2 0 t) := by
  pointwise [val_main_v4, val_main_v3, val_main_v2, val_main_v1]

/-- The value rows, with the head axis first. -/
theorem value_apply (h : Fin 12) (t : Fin 2048) (d : Fin 64) : val_main_v0 (F := Ideal) W (ix3 h t d) = W (ix4 0 h t d) := by
  pointwise [val_main_v0]

/-- The masked weighted sum of value rows. -/
theorem weighted_apply (h : Fin 12) (r : Fin 2048) (d : Fin 64) :
    val_main_v60 (F := Ideal) Q K W M (ix3 h r d)
      = weighted (fun e => Q (ix4 0 h r e)) (fun t e => K (ix4 0 h t e)) (fun t e => W (ix4 0 h t e))
          (fun t => M (ix2 0 t)) (M (ix2 0 r)) d := by
  have hp : ∀ t, val_main_v53 (F := Ideal) Q K (ix3 h r t)
      = ninthRight (oddHalf (clip (cosine (fun e => Q (ix4 0 h r e)) (fun e => K (ix4 0 h t e))))) := fun t => by
    rw [prob_apply, poly_apply, clip_apply, score_apply]
  have hm := fun t => mask_apply M h t
  have hv := fun t e => value_apply W h t e
  pointwise [val_main_v60, val_main_v59, val_main_v58, val_main_v57, val_main_v56, val_main_v55, val_main_v54]
  simp only [hp, hm, hv]
  rfl

/-- The reference's result at an index. -/
theorem result_apply (h : Fin 12) (r : Fin 2048) (d : Fin 64) :
    val_main_v66 (F := Ideal) Q K W M (ix4 0 h r d)
      = unitRow (weighted (fun e => Q (ix4 0 h r e)) (fun t e => K (ix4 0 h t e)) (fun t e => W (ix4 0 h t e))
          (fun t => M (ix2 0 t)) (M (ix2 0 r))) d := by
  have hx := fun e => weighted_apply Q K W M h r e
  pointwise [val_main_v66, val_main_v65, val_main_v64, val_main_v63, val_main_v62, val_main_cst_10, val_main_v61, val_main_call3_v2,
    val_main_call3_v1, val_main_call3_v0, val_main_call3_cst]
  simp only [eps_word, hx]
  rfl

end Cert.Proof

end

end
-- ==== Proof.Precondition.lean ====
module

public import proofs.«01_k».proof.Proof.RefArray
public import proofs.«01_k».proof.Proof.Gen.Pre_in_clip

/-! # What the precondition says

Every entry of the mask is one, and the score of every query and key row of a head is, in absolute value, at most the upper
end of the reference's clip. -/

@[expose] public section

set_option maxRecDepth 16384

noncomputable section

namespace Cert.Proof

open Idealize.ShloMosaic Cert.Pre_in_clip Cert.Pre_in_clip.Gen

/-- A truth value stored as the bit one is true. -/
theorem of_ofBool_decide {p : Prop} [Decidable p] (h : BitVec.ofBool (decide p) = 1#1) : p := by
  by_contra hne
  simp [hne] at h

variable (Q K W : FVec Ideal S1x12x2048x64 .f32) (M : FVec Ideal S1x2048 .f32)

/-- The first answer: the mask is one. -/
theorem mask_of_pre (h : (fn (F := Ideal) Q K W M).1 = fun _ => 1#1) (t : Fin 2048) : M (ix2 0 t) = 1 := by
  have h1 := congrFun h (ix2 0 t)
  pointwise [fn] at h1
  exact of_ofBool_decide h1

/-- The second answer: the score is within the clip. -/
theorem score_of_pre (h : (fn (F := Ideal) Q K W M).2 = fun _ => 1#1) (b : Fin 12) (r t : Fin 2048) :
    max (cosine (fun e => Q (ix4 0 b r e)) (fun e => K (ix4 0 b t e)))
      (-cosine (fun e => Q (ix4 0 b r e)) (fun e => K (ix4 0 b t e))) ≤ ((clipHi : ℝ) : EReal) := by
  have h1 := congrFun h (ix3 b r t)
  pointwise [fn, fn_norm] at h1
  simp only [eps_word, clipHi_word] at h1
  exact of_ofBool_decide h1

end Cert.Proof

end

end
-- ==== Proof.Equation.lean ====
module

public import proofs.«01_k».proof.Proof.KernelArray
public import proofs.«01_k».proof.Proof.Precondition

/-! # The equation

Under the precondition the reference's result is the kernel's, entry by entry: every score is a real number that the clip
leaves alone, the two spellings of the polynomial agree on real numbers, and a mask of ones multiplies by one. -/

@[expose] public section

noncomputable section

namespace Cert.Proof

open Idealize.ShloMosaic

/-- The kernel's score is the reference's. -/
theorem score_eq_cosine (q k : Fin 64 → EReal) : score q k = cosine q k :=
  Finset.sum_congr rfl fun e _ => congrArg₂ (· * ·) (scaleRow_eq_unitRow q e) (scaleRow_eq_unitRow k e)

/-- The weight of one key: the same from both programs, for a score within the clip. -/
theorem weight_eq (s : EReal) (h : max s (-s) ≤ ((clipHi : ℝ) : EReal)) :
    ninthLeft (hornerHalf s) = ninthRight (oddHalf (clip s)) := by
  obtain ⟨r, rfl, hr⟩ := exists_real_of_abs_le s h
  rw [clip, clip_eq_self r hr, hornerHalf_coe, oddHalf_coe, ninthLeft_eq_ninthRight]

/-- One row of the result. -/
theorem outRow_eq (q : Fin 64 → EReal) (k v : Fin 2048 → Fin 64 → EReal) (mk : Fin 2048 → EReal) (mq : EReal)
    (hs : ∀ t, max (cosine q (k t)) (-cosine q (k t)) ≤ ((clipHi : ℝ) : EReal)) (hk : ∀ t, mk t = 1) (hq : mq = 1) (d : Fin 64) :
    outRow q k v d = unitRow (weighted q k v mk mq) d := by
  unfold outRow
  rw [scaleRow_eq_unitRow]
  refine congrArg (fun x => unitRow x d) (funext fun d' => ?_)
  unfold weighted
  rw [hq, mul_one]
  exact Finset.sum_congr rfl fun t _ => by rw [hk, mul_one, score_eq_cosine, weight_eq _ (hs t)]

/-- The reference's result array is the kernel's. -/
theorem reference_eq (Q K W : Cert.KernelIdeal.S1x12x2048x64.Idx → EReal) (M : Cert.KernelIdeal.S1x2048.Idx → EReal)
    (hm : (Cert.Pre_in_clip.fn (F := Ideal) Q K W M).1 = fun _ => 1#1)
    (hs : (Cert.Pre_in_clip.fn (F := Ideal) Q K W M).2 = fun _ => 1#1) :
    Cert.ReferenceIdeal.Read.val_main_v66 (F := Ideal) Q K W M = attention Q K W := by
  funext i
  obtain ⟨u, h, r, d, rfl⟩ : ∃ (u : Fin 1) (h : Fin 12) (r : Fin 2048) (d : Fin 64), i = ix4 u h r d :=
    ⟨i 0, i 1, i 2, i 3, eq_ix4 i⟩
  obtain rfl : u = 0 := Subsingleton.elim _ _
  refine (result_apply Q K W M h r d).trans (Eq.symm ?_)
  exact outRow_eq _ _ _ _ _ (fun t => score_of_pre Q K W M hs h r t) (fun t => mask_of_pre Q K W M hm t) (mask_of_pre Q K W M hm r) d

end Cert.Proof

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_clip
public import proofs.«01_k».proof.Proof.Equation
public import Idealize.ShloMosaic.Lib.Quiescent
public import Idealize.ShloMosaic.Lib.Claim
public import Idealize.ShloMosaic.Adequacy
public import Idealize.ShloMosaic.Init

/-! # The claim, assembled

* The kernel and its idealization run and leave their arguments and every counter as they were: generated.
* The reference runs the same way: its run is generated, and it declares no semaphore.
* The idealization replaces one literal, whose named value rounds to that literal.
* Under `in_clip` the idealized kernel's result array is the idealized reference's (`kernel_run`, `reference_eq`). -/

@[expose] public section

noncomputable section

namespace Cert.Proof

open Idealize.ShloMosaic Idealize.ShloMosaic.TcCoe Idealize.SL.Sem

/-- The reference's run with its counters. -/
theorem reference_frame : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- The reference's result array, from the argument arrays. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩ fun r =>
      ∀ c : Dev Cert.ReferenceIdeal.nD,
        r.2.mem ((c.tc : Thread Cert.ReferenceIdeal.nD Cert.ReferenceIdeal.τ).loc Cert.ReferenceIdeal.main_v66)
          = Cert.ReferenceIdeal.Read.val_main_v66 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3)) :=
  (θ_run Cert.ReferenceIdeal.defs _ _).mono
    (fun _ h c => (h c).1.trans (Cert.ReferenceIdeal.Read.val_main_v66_eq (StableHlo.launchContents m c)))
    (Cert.ReferenceIdeal.Value.run m g)

/-- The idealization's one rewritten literal. -/
theorem preserves : Cert.preserves_Kernel_KernelIdeal :=
  IdealRules.named_const.statement Cert.KernelIdeal.κ "eps_sq" .f32 0x2B8CBCCC#32 _ rfl

/-- The two results are equal. -/
theorem algebraic : Cert.algebraic_KernelIdeal_ReferenceIdeal_pre_in_clip := by
  intro m g m' g' hpre hargs
  refine ⟨_, kernel_run m g, ?_⟩
  refine (θ_run Cert.ReferenceIdeal.defs _ _).mono (fun r h c => ⟨?_, (h.2.1 c)⟩)
    (θ_run_and (reference_run m' g') (reference_frame m' g' trivial))
  rw [h.1 c, (hargs c).1, (hargs c).2.1, (hargs c).2.2.1, (hargs c).2.2.2]
  exact reference_eq _ _ _ _ (hpre c).1 (hpre c).2

theorem claim : Cert.Claim := ⟨Cert.Kernel.Gen.facts, Cert.KernelIdeal.Gen.facts, Cert.ReferenceIdeal.Gen.facts, Cert.Pre_in_clip.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  preserves,
  algebraic⟩

end Cert.Proof

end
